-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x65536 : Shape := ⟨3, ![16, 1, 65536]⟩
abbrev S16x1x128x64 : Shape := ⟨4, ![16, 1, 128, 64]⟩
abbrev S256x32x128 : Shape := ⟨3, ![256, 32, 128]⟩
abbrev S32x8x128 : Shape := ⟨3, ![32, 8, 128]⟩
abbrev S32x64x128 : Shape := ⟨3, ![32, 64, 128]⟩
abbrev S16x1x512 : Shape := ⟨3, ![16, 1, 512]⟩
abbrev S16x1x4 : Shape := ⟨3, ![16, 1, 4]⟩
abbrev S16x1x64 : Shape := ⟨3, ![16, 1, 64]⟩
abbrev S16x128x512 : Shape := ⟨3, ![16, 128, 512]⟩
abbrev S16x128x64 : Shape := ⟨3, ![16, 128, 64]⟩
abbrev S16x64x128 : Shape := ⟨3, ![16, 64, 128]⟩
abbrev S16x512 : Shape := ⟨2, ![16, 512]⟩
abbrev S16x4 : Shape := ⟨2, ![16, 4]⟩
abbrev S16x64 : Shape := ⟨2, ![16, 64]⟩
abbrev S1x128x512 : Shape := ⟨3, ![1, 128, 512]⟩
abbrev S1x64x128 : Shape := ⟨3, ![1, 64, 128]⟩
abbrev S16x32x128 : Shape := ⟨3, ![16, 32, 128]⟩
abbrev S2x8x128 : Shape := ⟨3, ![2, 8, 128]⟩
abbrev S2x64x128 : Shape := ⟨3, ![2, 64, 128]⟩
abbrev S1x1x512 : Shape := ⟨3, ![1, 1, 512]⟩
abbrev S128x512 : Shape := ⟨2, ![128, 512]⟩
abbrev S64x128 : Shape := ⟨2, ![64, 128]⟩
abbrev S1x4x128 : Shape := ⟨3, ![1, 4, 128]⟩
abbrev S4x128 : Shape := ⟨2, ![4, 128]⟩
abbrev S4x512 : Shape := ⟨2, ![4, 512]⟩
abbrev S8x512 : Shape := ⟨2, ![8, 512]⟩
abbrev S512x8 : Shape := ⟨2, ![512, 8]⟩
abbrev S16x8x128 : Shape := ⟨3, ![16, 8, 128]⟩
abbrev S128x128 : Shape := ⟨2, ![128, 128]⟩
abbrev S512x128 : Shape := ⟨2, ![512, 128]⟩
abbrev S512x1 : Shape := ⟨2, ![512, 1]⟩
abbrev S512x512 : Shape := ⟨2, ![512, 512]⟩
abbrev S1x32x128 : Shape := ⟨3, ![1, 32, 128]⟩
abbrev S32x128 : Shape := ⟨2, ![32, 128]⟩
abbrev S32x512 : Shape := ⟨2, ![32, 512]⟩
abbrev S64x512 : Shape := ⟨2, ![64, 512]⟩
abbrev S1x512 : Shape := ⟨2, ![1, 512]⟩
abbrev S4 : Shape := ⟨1, ![4]⟩
abbrev S1x4 : Shape := ⟨2, ![1, 4]⟩
abbrev S1x1 : Shape := ⟨2, ![1, 1]⟩
abbrev S1x128 : Shape := ⟨2, ![1, 128]⟩
abbrev S512 : Shape := ⟨1, ![512]⟩
abbrev S64 : Shape := ⟨1, ![64]⟩
abbrev S1x64 : Shape := ⟨2, ![1, 64]⟩
abbrev S128 : Shape := ⟨1, ![128]⟩
abbrev S128x1 : Shape := ⟨2, ![128, 1]⟩
abbrev S128x64 : Shape := ⟨2, ![128, 64]⟩

abbrev nBuf : Space → Nat
  | .hbm => 16
  | .vmem => 17
  | .smem => 0
  | _ => 0

abbrev bufTy : (tb : Table) → Fin (tcTables nBuf tb) → BufTy
  | .hbm, ⟨0, _⟩ => ⟨S16x1x65536, .bf16⟩
  | .hbm, ⟨1, _⟩ => ⟨S16x1x128x64, .bf16⟩
  | .hbm, ⟨2, _⟩ => ⟨S256x32x128, .i32⟩
  | .hbm, ⟨3, _⟩ => ⟨S32x8x128, .f32⟩
  | .hbm, ⟨4, _⟩ => ⟨S32x64x128, .i32⟩
  | .hbm, ⟨5, _⟩ => ⟨S16x1x512, .i32⟩
  | .hbm, ⟨6, _⟩ => ⟨S16x1x512, .fp8e4m3⟩
  | .hbm, ⟨7, _⟩ => ⟨S16x1x4, .f32⟩
  | .hbm, ⟨8, _⟩ => ⟨S16x1x64, .bf16⟩
  | .hbm, ⟨9, _⟩ => ⟨S16x128x512, .bf16⟩
  | .hbm, ⟨10, _⟩ => ⟨S16x128x64, .bf16⟩
  | .hbm, ⟨11, _⟩ => ⟨S16x64x128, .bf16⟩
  | .hbm, ⟨12, _⟩ => ⟨S16x512, .fp8e4m3⟩
  | .hbm, ⟨13, _⟩ => ⟨S16x4, .f32⟩
  | .hbm, ⟨14, _⟩ => ⟨S16x64, .bf16⟩
  | .hbm, ⟨15, _⟩ => ⟨S16x128x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x64x128, .bf16⟩
  | .local _ .vmem, ⟨3, _⟩ => ⟨S1x64x128, .bf16⟩
  | .local _ .vmem, ⟨4, _⟩ => ⟨S16x32x128, .i32⟩
  | .local _ .vmem, ⟨5, _⟩ => ⟨S16x32x128, .i32⟩
  | .local _ .vmem, ⟨6, _⟩ => ⟨S2x8x128, .f32⟩
  | .local _ .vmem, ⟨7, _⟩ => ⟨S2x8x128, .f32⟩
  | .local _ .vmem, ⟨8, _⟩ => ⟨S2x64x128, .i32⟩
  | .local _ .vmem, ⟨9, _⟩ => ⟨S2x64x128, .i32⟩
  | .local _ .vmem, ⟨10, _⟩ => ⟨S1x1x512, .i32⟩
  | .local _ .vmem, ⟨11, _⟩ => ⟨S1x1x512, .i32⟩
  | .local _ .vmem, ⟨12, _⟩ => ⟨S16x512, .fp8e4m3⟩
  | .local _ .vmem, ⟨13, _⟩ => ⟨S16x4, .f32⟩
  | .local _ .vmem, ⟨14, _⟩ => ⟨S16x64, .bf16⟩
  | .local _ .vmem, ⟨15, _⟩ => ⟨S1x128x512, .bf16⟩
  | .local _ .vmem, ⟨16, _⟩ => ⟨S1x128x512, .bf16⟩
  | _, _ => ⟨S16x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16x1x65536 : Shape := ⟨3, ![16, 1, 65536]⟩
abbrev S16x1x128x64 : Shape := ⟨4, ![16, 1, 128, 64]⟩
abbrev S256x32x128 : Shape := ⟨3, ![256, 32, 128]⟩
abbrev S32x8x128 : Shape := ⟨3, ![32, 8, 128]⟩
abbrev S32x64x128 : Shape := ⟨3, ![32, 64, 128]⟩
abbrev S16x1x512 : Shape := ⟨3, ![16, 1, 512]⟩
abbrev S16x1x4 : Shape := ⟨3, ![16, 1, 4]⟩
abbrev S16x1x64 : Shape := ⟨3, ![16, 1, 64]⟩
abbrev S16x16x4x8x128 : Shape := ⟨5, ![16, 16, 4, 8, 128]⟩
abbrev S_ : Shape := ⟨0, ![]⟩
abbrev S16x16x4x8x1x128 : Shape := ⟨6, ![16, 16, 4, 8, 1, 128]⟩
abbrev S16x16x4x8x4x128 : Shape := ⟨6, ![16, 16, 4, 8, 4, 128]⟩
abbrev S16x16x8x4x4x128 : Shape := ⟨6, ![16, 16, 8, 4, 4, 128]⟩
abbrev S16x512x512 : Shape := ⟨3, ![16, 512, 512]⟩
abbrev S16x2x4x2x128 : Shape := ⟨5, ![16, 2, 4, 2, 128]⟩
abbrev S16x2x2x128x4 : Shape := ⟨5, ![16, 2, 2, 128, 4]⟩
abbrev S16x512x4 : Shape := ⟨3, ![16, 512, 4]⟩
abbrev S16x2x32x2x128 : Shape := ⟨5, ![16, 2, 32, 2, 128]⟩
abbrev S16x2x32x2x128x2 : Shape := ⟨6, ![16, 2, 32, 2, 128, 2]⟩
abbrev S16x2x2x128x32x2 : Shape := ⟨6, ![16, 2, 2, 128, 32, 2]⟩
abbrev S16x512x64 : Shape := ⟨3, ![16, 512, 64]⟩
abbrev S16x128x512 : Shape := ⟨3, ![16, 128, 512]⟩
abbrev S16x128x64 : Shape := ⟨3, ![16, 128, 64]⟩
abbrev S16x512x4x128 : Shape := ⟨4, ![16, 512, 4, 128]⟩
abbrev S16x512x4x1 : Shape := ⟨4, ![16, 512, 4, 1]⟩
abbrev S16x1x4x128 : Shape := ⟨4, ![16, 1, 4, 128]⟩
abbrev S16x1x4x1 : Shape := ⟨4, ![16, 1, 4, 1]⟩
abbrev S16x128x1 : Shape := ⟨3, ![16, 128, 1]⟩
abbrev S16x128x513 : Shape := ⟨3, ![16, 128, 513]⟩
abbrev S16x128 : Shape := ⟨2, ![16, 128]⟩

abbrev nBuf : Space → Nat
  | .hbm => 51
  | .vmem => 10
  | .smem => 0
  | _ => 0

abbrev bufTy : (tb : Table) → Fin (tcTables nBuf tb) → BufTy
  | .hbm, ⟨0, _⟩ => ⟨S16x1x65536, .bf16⟩
  | .hbm, ⟨1, _⟩ => ⟨S16x1x128x64, .bf16⟩
  | .hbm, ⟨2, _⟩ => ⟨S256x32x128, .i32⟩
  | .hbm, ⟨3, _⟩ => ⟨S32x8x128, .f32⟩
  | .hbm, ⟨4, _⟩ => ⟨S32x64x128, .i32⟩
  | .hbm, ⟨5, _⟩ => ⟨S16x1x512, .i32⟩
  | .hbm, ⟨6, _⟩ => ⟨S16x1x512, .fp8e4m3⟩
  | .hbm, ⟨7, _⟩ => ⟨S16x1x4, .f32⟩
  | .hbm, ⟨8, _⟩ => ⟨S16x1x64, .bf16⟩
  | .hbm, ⟨9, _⟩ => ⟨S16x16x4x8x128, .i32⟩
  | .hbm, ⟨10, _⟩ => ⟨S_, .i32⟩
  | .hbm, ⟨11, _⟩ => ⟨S16x16x4x8x128, .i32⟩
  | .hbm, ⟨12, _⟩ => ⟨S16x16x4x8x128, .i32⟩
  | .hbm, ⟨13, _⟩ => ⟨S_, .i32⟩
  | .hbm, ⟨14, _⟩ => ⟨S16x16x4x8x128, .i32⟩
  | .hbm, ⟨15, _⟩ => ⟨S16x16x4x8x128, .i32⟩
  | .hbm, ⟨16, _⟩ => ⟨S_, .i32⟩
  | .hbm, ⟨17, _⟩ => ⟨S16x16x4x8x128, .i32⟩
  | .hbm, ⟨18, _⟩ => ⟨S16x16x4x8x128, .i32⟩
  | .hbm, ⟨19, _⟩ => ⟨S_, .i32⟩
  | .hbm, ⟨20, _⟩ => ⟨S16x16x4x8x128, .i32⟩
  | .hbm, ⟨21, _⟩ => ⟨S16x16x4x8x128, .i32⟩
  | .hbm, ⟨22, _⟩ => ⟨S_, .i32⟩
  | .hbm, ⟨23, _⟩ => ⟨S16x16x4x8x128, .i32⟩
  | .hbm, ⟨24, _⟩ => ⟨S16x16x4x8x128, .i32⟩
  | .hbm, ⟨25, _⟩ => ⟨S_, .i32⟩
  | .hbm, ⟨26, _⟩ => ⟨S16x16x4x8x128, .i32⟩
  | .hbm, ⟨27, _⟩ => ⟨S16x16x4x8x128, .i32⟩
  | .hbm, ⟨28, _⟩ => ⟨S_, .i32⟩
  | .hbm, ⟨29, _⟩ => ⟨S16x16x4x8x128, .i32⟩
  | .hbm, ⟨30, _⟩ => ⟨S16x16x4x8x128, .i32⟩
  | .hbm, ⟨31, _⟩ => ⟨S_, .i32⟩
  | .hbm, ⟨32, _⟩ => ⟨S16x16x4x8x128, .i32⟩
  | .hbm, ⟨33, _⟩ => ⟨S16x16x4x8x128, .i32⟩
  | .hbm, ⟨34, _⟩ => ⟨S16x16x4x8x1x128, .i32⟩
  | .hbm, ⟨35, _⟩ => ⟨S16x16x4x8x1x128, .i32⟩
  | .hbm, ⟨36, _⟩ => ⟨S16x16x4x8x1x128, .i32⟩
  | .hbm, ⟨37, _⟩ => ⟨S16x16x4x8x1x128, .i32⟩
  | .hbm, ⟨38, _⟩ => ⟨S16x16x4x8x4x128, .i32⟩
  | .hbm, ⟨39, _⟩ => ⟨S16x16x8x4x4x128, .i32⟩
  | .hbm, ⟨40, _⟩ => ⟨S16x512x512, .i32⟩
  | .hbm, ⟨41, _⟩ => ⟨S16x2x4x2x128, .f32⟩
  | .hbm, ⟨42, _⟩ => ⟨S16x2x2x128x4, .f32⟩
  | .hbm, ⟨43, _⟩ => ⟨S16x512x4, .f32⟩
  | .hbm, ⟨44, _⟩ => ⟨S16x2x32x2x128, .i32⟩
  | .hbm, ⟨45, _⟩ => ⟨S16x2x32x2x128x2, .bf16⟩
  | .hbm, ⟨46, _⟩ => ⟨S16x2x2x128x32x2, .bf16⟩
  | .hbm, ⟨47, _⟩ => ⟨S16x512x64, .bf16⟩
  | .hbm, ⟨48, _⟩ => ⟨S16x128x512, .bf16⟩
  | .hbm, ⟨49, _⟩ => ⟨S16x128x64, .bf16⟩
  | .hbm, ⟨50, _⟩ => ⟨S16x128x512, .bf16⟩
  | .local _ .vmem, ⟨0, _⟩ => ⟨S16x128x512, .bf16⟩
  | .local _ .vmem, ⟨1, _⟩ => ⟨S16x128x64, .bf16⟩
  | .local _ .vmem, ⟨2, _⟩ => ⟨S16x512x512, .i32⟩
  | .local _ .vmem, ⟨3, _⟩ => ⟨S16x512x4, .f32⟩
  | .local _ .vmem, ⟨4, _⟩ => ⟨S16x512x64, .bf16⟩
  | .local _ .vmem, ⟨5, _⟩ => ⟨S16x1x512, .i32⟩
  | .local _ .vmem, ⟨6, _⟩ => ⟨S16x1x512, .fp8e4m3⟩
  | .local _ .vmem, ⟨7, _⟩ => ⟨S16x1x4, .f32⟩
  | .local _ .vmem, ⟨8, _⟩ => ⟨S16x1x64, .bf16⟩
  | .local _ .vmem, ⟨9, _⟩ => ⟨S16x128x512, .bf16⟩
  | _, _ => ⟨S16x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_v13 : Ref sig .tc := ⟨.hbm, 29, rfl⟩
abbrev main_v14 : Ref sig .tc := ⟨.hbm, 30, rfl⟩
abbrev main_c_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S16x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Attention.lean ====
/- The attention of one head over 512 selected latents and one new latent, as a function of plain families of
   numbers: what both programs compute. The reading of the packed words: which bits of a word are one fp8 code, and
   which are one bf16 rotary coordinate. The few facts about sums, maxima and words that the two sides need. -/
module

public import Idealize.ShloMosaic.Lib.Pipeline.ValueKit
public import Idealize.ShloMosaic.Lib.Pointwise
public import Idealize.ShloMosaic.Lib.BitcastConvert

@[expose] public section

set_option maxRecDepth 16384

noncomputable section

namespace Cert.Mla

open Idealize.ShloMosaic Idealize.ShloMosaic.TcCoe Idealize.SL.Sem

/-- Byte `d` of a packed word, read as an fp8 (e4m3) number. -/
def codeOf (w : BitVec 32) (d : ℕ) : EReal := Ideal.ofBits .fp8e4m3 (w.extractLsb' (d * 8) 8)

/-- Half `d` of a packed word, read as a bf16 number. -/
def rotOf (w : BitVec 32) (d : ℕ) : EReal := Ideal.ofBits .bf16 (w.extractLsb' (d * 16) 16)

/-- The factor of every score: the float32 nearest to `192 ^ (-1/2)`. -/
abbrev factor : EReal := Ideal.ofBits .f32 0x3D93CD3A#32

/-- Minus infinity, the score of an absent token. -/
abbrev lowest : EReal := Ideal.ofBits .f32 0xFF800000#32

/-- The score of one latent: the product of its 512 channels with the query, plus the product of its 64 rotary
    coordinates with the rotary query, times the factor. -/
def score (q kv : Fin 512 → EReal) (r kr : Fin 64 → EReal) : EReal :=
  (∑ c, q c * kv c + ∑ x, r x * kr x) * factor

/-- A score is kept where the token's index is not negative, and is minus infinity elsewhere. -/
def masked (i : BitVec 32) (s : EReal) : EReal := Scalar.select (IntOp.cmpi .sge i 0#32) s lowest

/-- The largest of the 512 scores and the new score. -/
def top (s : Fin 512 → EReal) (n : EReal) : EReal := max (Finset.univ.fold max lowest s) n

/-- The softmax's denominator. -/
def denom (s : Fin 512 → EReal) (n : EReal) : EReal :=
  ∑ t, Ideal.exp (s t - top s n) + Ideal.exp (n - top s n)

/-- The values `v` and the new value `w`, weighted by the softmax of the scores `s` and the new score `n`. -/
def mix (s : Fin 512 → EReal) (n : EReal) (v : Fin 512 → EReal) (w : EReal) : EReal :=
  ∑ t, Ideal.div (Ideal.exp (s t - top s n)) (denom s n) * v t
    + Ideal.div (Ideal.exp (n - top s n)) (denom s n) * w

/-- The attention of one head: `q`, `r` its query and rotary query, `kv t`, `kr t` the selected latents and their
    rotary keys, `i t` the tokens' indices, `nkv`, `nkr` the new latent and its rotary key. The result at channel `c`. -/
def attend (q : Fin 512 → EReal) (r : Fin 64 → EReal) (kv : Fin 512 → Fin 512 → EReal) (kr : Fin 512 → Fin 64 → EReal)
    (i : Fin 512 → BitVec 32) (nkv : Fin 512 → EReal) (nkr : Fin 64 → EReal) (c : Fin 512) : EReal :=
  mix (fun t => masked (i t) (score q (kv t) r (kr t))) (score q nkv r nkr) (fun t => kv t c) (nkv c)

/-- Two attentions of equal data are equal. -/
theorem attend_congr {q q' : Fin 512 → EReal} {r r' : Fin 64 → EReal} {kv kv' : Fin 512 → Fin 512 → EReal}
    {kr kr' : Fin 512 → Fin 64 → EReal} {i i' : Fin 512 → BitVec 32} {nkv nkv' : Fin 512 → EReal}
    {nkr nkr' : Fin 64 → EReal} (c : Fin 512) (h1 : ∀ x, q x = q' x) (h2 : ∀ x, r x = r' x)
    (h3 : ∀ t x, kv t x = kv' t x) (h4 : ∀ t x, kr t x = kr' t x) (h5 : ∀ t, i t = i' t)
    (h6 : ∀ x, nkv x = nkv' x) (h7 : ∀ x, nkr x = nkr' x) :
    attend q r kv kr i nkv nkr c = attend q' r' kv' kr' i' nkv' nkr' c := by
  obtain rfl : q = q' := funext h1
  obtain rfl : r = r' := funext h2
  obtain rfl : kv = kv' := funext fun t => funext (h3 t)
  obtain rfl : kr = kr' := funext fun t => funext (h4 t)
  obtain rfl : i = i' := funext h5
  obtain rfl : nkv = nkv' := funext h6
  obtain rfl : nkr = nkr' := funext h7
  rfl

/-- The maximum over 513 numbers is the larger of the maximum of the first 512 and the last. -/
theorem fold_max_last (a : EReal) (f : Fin 513 → EReal) :
    Finset.univ.fold max a f = max (Finset.univ.fold max a fun t : Fin 512 => f t.castSucc) (f (Fin.last 512)) := by
  rw [Fin.univ_castSuccEmb, Finset.fold_cons, Finset.fold_map, max_comm]
  rfl

/-- Taking the larger of the starting value and a maximum that starts from it changes nothing. -/
theorem max_fold_self (a b : EReal) (f : Fin 512 → EReal) :
    max a (max (Finset.univ.fold max a f) b) = max (Finset.univ.fold max a f) b :=
  max_eq_right (le_max_of_le_left ((Finset.le_fold_max (s := Finset.univ) (f := f) (b := a) a).2 (.inl le_rfl)))

/-- A sum over 16 rows of which only row `b` is kept is row `b`. -/
theorem sum_row (b : Fin 16) (f : Fin 16 → EReal) :
    ∑ x : Fin 16, Scalar.select (IntOp.cmpi .eq (BitVec.ofNat 32 x.val) (BitVec.ofNat 32 b.val)) (f x) 0 = f b := by
  rw [Finset.sum_eq_single b]
  · have h : IntOp.cmpi .eq (BitVec.ofNat 32 b.val) (BitVec.ofNat 32 b.val) = 1#1 := by
      revert b; decide
    rw [h]; rfl
  · intro x _ hx
    have h : ∀ b x : Fin 16, x ≠ b → IntOp.cmpi .eq (BitVec.ofNat 32 x.val) (BitVec.ofNat 32 b.val) = 0#1 := by decide
    rw [h b x hx]; rfl
  · intro h; exact absurd (Finset.mem_univ b) h

private theorem row2 {n k : ℕ} (t : Fin n) (l : Fin k) : Shape.row (s := ⟨2, ![n, k]⟩) (ix2 t l) = t.val := rfl

/-- 32-bit rows read at 8 bits: row `t` is byte `t % 4` of word row `t / 4`. -/
theorem bitcast_byte (x : IVec ⟨2, ![128, 128]⟩ 32) (h : Shape.Bitcasts ⟨2, ![128, 128]⟩ 32 ⟨2, ![512, 128]⟩ 8)
    (t : Fin 512) (l : Fin 128) :
    bitcast ⟨2, ![512, 128]⟩ 8 x h (ix2 t l)
      = (x (ix2 ⟨t.val / 4, by omega⟩ l)).extractLsb' (t.val % 4 * 8) 8 := by
  apply BitVec.eq_of_getLsbD_eq
  intro q hq
  rw [bitcast_getLsbD x h _ q hq (by decide), BitVec.getLsbD_extractLsb']
  have hr : Shape.row (s := ⟨2, ![512, 128]⟩) (ix2 t l) = t.val := row2 t l
  have ep : (Shape.row (s := ⟨2, ![512, 128]⟩) (ix2 t l) * 8 + q) / 32 = t.val / 4 := by rw [hr]; omega
  have eq : (Shape.row (s := ⟨2, ![512, 128]⟩) (ix2 t l) * 8 + q) % 32 = t.val % 4 * 8 + q := by rw [hr]; omega
  rw [h.srcIdx_congr _ ep _ (fun a ha => by have := h.pos_lt (ix2 t l) q hq a ha; omega), eq]
  simp only [hq, decide_true, Bool.true_and]
  congr 2
  funext a
  match a with
  | ⟨0, _⟩ => rfl
  | ⟨1, _⟩ => rfl

/-- 32-bit rows read at 16 bits: row `r` is half `r % 2` of word row `r / 2`. -/
theorem bitcast_half (x : IVec ⟨2, ![32, 512]⟩ 32) (h : Shape.Bitcasts ⟨2, ![32, 512]⟩ 32 ⟨2, ![64, 512]⟩ 16)
    (r : Fin 64) (t : Fin 512) :
    bitcast ⟨2, ![64, 512]⟩ 16 x h (ix2 r t)
      = (x (ix2 ⟨r.val / 2, by omega⟩ t)).extractLsb' (r.val % 2 * 16) 16 := by
  apply BitVec.eq_of_getLsbD_eq
  intro q hq
  rw [bitcast_getLsbD x h _ q hq (by decide), BitVec.getLsbD_extractLsb']
  have hr : Shape.row (s := ⟨2, ![64, 512]⟩) (ix2 r t) = r.val := row2 r t
  have ep : (Shape.row (s := ⟨2, ![64, 512]⟩) (ix2 r t) * 16 + q) / 32 = r.val / 2 := by rw [hr]; omega
  have eq : (Shape.row (s := ⟨2, ![64, 512]⟩) (ix2 r t) * 16 + q) % 32 = r.val % 2 * 16 + q := by rw [hr]; omega
  rw [h.srcIdx_congr _ ep _ (fun a ha => by have := h.pos_lt (ix2 r t) q hq a ha; omega), eq]
  simp only [hq, decide_true, Bool.true_and]
  congr 2
  funext a
  match a with
  | ⟨0, _⟩ => rfl
  | ⟨1, _⟩ => rfl

/-- The word shifted down by `8 d` bits and cut to its low byte is byte `d`, for `d = 0, 1, 2, 3`. -/
theorem byte_of_shift (w : BitVec 32) (n : ℕ) (hn : n + 8 ≤ 32) :
    (BitVec.sshiftRight w n &&& 255#32).setWidth 8 = w.extractLsb' n 8 := by
  apply BitVec.eq_of_getLsbD_eq
  intro q hq
  have h255 : ∀ q : Fin 8, (255#32 : BitVec 32).getLsbD q.val = true := by decide
  have e : (255#32 : BitVec 32).getLsbD q = true := h255 ⟨q, hq⟩
  have hlt : n + q < 32 := by omega
  rw [BitVec.getLsbD_setWidth, BitVec.getLsbD_and, BitVec.getLsbD_sshiftRight, e, BitVec.getLsbD_extractLsb']
  simp [hq, hlt, show q < 32 by omega]

end Cert.Mla

end
-- ==== Proof.KernelPoint.lean ====
/- What the kernel's body computes of one block: the attention of the sequence's 128 heads, each over the latents
   decoded from the block's packed words. -/
module

public import proofs.«01_k».proof.Proof.Gen.KernelIdeal.Frame
public import proofs.«01_k».proof.Proof.Attention

@[expose] public section

set_option maxRecDepth 16384

noncomputable section

namespace Cert.KernelIdeal.Point

open Idealize.ShloMosaic Idealize.ShloMosaic.TcCoe Idealize.SL.Sem
open Cert.KernelIdeal Cert.KernelIdeal.Gen Cert.Mla

/-- The scale of token `t`, channel block `k`, in one sequence's block of scales. -/
abbrev scaleAt (x3 : Vec Ideal S2x8x128 .f32) (t : Fin 512) (k : ℕ) (hk : k < 4) : EReal :=
  x3 (ix3 ⟨t.val / 256, by omega⟩ ⟨2 * k + t.val % 256 / 128, by omega⟩ ⟨t.val % 128, by omega⟩)

/-- The word that holds channel `c` of token `t`, in one sequence's block of words. -/
abbrev wordAt (x2 : Vec Ideal S16x32x128 .i32) (t c : Fin 512) : BitVec 32 :=
  x2 (ix3 ⟨t.val / 32, by omega⟩ ⟨c.val / 128 * 8 + t.val % 32 / 4, by omega⟩ ⟨c.val % 128, by omega⟩)

/-- Channel `c` of latent `t`. -/
def latent (x2 : Vec Ideal S16x32x128 .i32) (x3 : Vec Ideal S2x8x128 .f32) (t c : Fin 512) : EReal :=
  codeOf (wordAt x2 t c) (t.val % 4) * scaleAt x3 t (c.val / 128) (by omega)

/-- Rotary coordinate `r` of token `t`. -/
def rotary (x4 : Vec Ideal S2x64x128 .i32) (t : Fin 512) (r : Fin 64) : EReal :=
  rotOf (x4 (ix3 ⟨t.val / 256, by omega⟩ ⟨2 * (r.val / 2) + t.val % 256 / 128, by omega⟩ ⟨t.val % 128, by omega⟩)) (r.val % 2)

/-- The four loads of the scales: rows of one parity, of one half of the tokens. -/
structure Scales (x3 : Vec Ideal S2x8x128 .f32) (s0 s1 s2 s3 : Vec Ideal S1x4x128 .f32) : Prop where
  h0 : ∀ (k : Fin 4) (l : Fin 128), s0 (ix3 0 k l) = x3 (ix3 0 ⟨2 * k.val, by omega⟩ l)
  h1 : ∀ (k : Fin 4) (l : Fin 128), s1 (ix3 0 k l) = x3 (ix3 0 ⟨2 * k.val + 1, by omega⟩ l)
  h2 : ∀ (k : Fin 4) (l : Fin 128), s2 (ix3 0 k l) = x3 (ix3 1 ⟨2 * k.val, by omega⟩ l)
  h3 : ∀ (k : Fin 4) (l : Fin 128), s3 (ix3 0 k l) = x3 (ix3 1 ⟨2 * k.val + 1, by omega⟩ l)

/-- The four loads of the rotary words: rows of one parity, of one half of the tokens. -/
structure Rots (x4 : Vec Ideal S2x64x128 .i32) (r0 r1 r2 r3 : Vec Ideal S1x32x128 .i32) : Prop where
  h0 : ∀ (k : Fin 32) (l : Fin 128), r0 (ix3 0 k l) = x4 (ix3 0 ⟨2 * k.val, by omega⟩ l)
  h1 : ∀ (k : Fin 32) (l : Fin 128), r1 (ix3 0 k l) = x4 (ix3 0 ⟨2 * k.val + 1, by omega⟩ l)
  h2 : ∀ (k : Fin 32) (l : Fin 128), r2 (ix3 0 k l) = x4 (ix3 1 ⟨2 * k.val, by omega⟩ l)
  h3 : ∀ (k : Fin 32) (l : Fin 128), r3 (ix3 0 k l) = x4 (ix3 1 ⟨2 * k.val + 1, by omega⟩ l)

/-- The transposed scales: row `t`, column `k`. -/
theorem scale_at {x3 : Vec Ideal S2x8x128 .f32} {s0 s1 s2 s3 : Vec Ideal S1x4x128 .f32} (H : Scales x3 s0 s1 s2 s3)
    (t : Fin 512) (k : Fin 8) (hk : k.val < 4) :
    k0_pay4 (F := Ideal) s0 s1 s2 s3 (ix2 t k) = scaleAt x3 t k.val hk := by
  have e : k0_pay4 (F := Ideal) s0 s1 s2 s3 (ix2 t k)
      = if h : t.val < 128 then s0 (ix3 0 ⟨k.val, hk⟩ ⟨t.val, h⟩)
        else if h1 : t.val - 128 < 128 then s1 (ix3 0 ⟨k.val, hk⟩ ⟨t.val - 128, h1⟩)
        else if h2 : t.val - 128 - 128 < 128 then s2 (ix3 0 ⟨k.val, hk⟩ ⟨t.val - 128 - 128, h2⟩)
        else s3 (ix3 0 ⟨k.val, hk⟩ ⟨t.val - 128 - 128 - 128, by omega⟩) := by
    pointwise [k0_pay4]
    rw [dif_pos hk]
  rw [e]
  split_ifs with h1 h2 h3
  · rw [H.h0]; blk_ext
  · rw [H.h1]; blk_ext
  · rw [H.h2]; blk_ext
  · rw [H.h3]; blk_ext

/-- The decoded codes of one channel block: row `t`, lane `l` of the words' slice that starts at row `o`. -/
theorem code_at (x2 : Vec Ideal S16x32x128 .i32) (o : ℕ) (ho : o ≤ 24)
    (hsl : S16x32x128.Slices ![0, o, 0] S16x8x128) (hc : S16x8x128.ShapeCasts S128x128)
    (hb : S128x128.Bitcasts 32 S512x128 8) (t : Fin 512) (l : Fin 128) :
    bitcast S512x128 8 (shapeCast S128x128 (extractStridedSlice S16x8x128 ![0, o, 0] x2 hsl) hc) hb (ix2 t l)
      = (x2 (ix3 ⟨t.val / 32, by omega⟩ ⟨o + t.val % 32 / 4, by omega⟩ l)).extractLsb' (t.val % 4 * 8) 8 := by
  rw [bitcast_byte]
  congr 1
  pointwise
  blk_ext

/-- The dequantised latents as one 512 by 512 array. -/
abbrev kvTerm (x2 : Vec Ideal S16x32x128 .i32) (s0 s1 s2 s3 : Vec Ideal S1x4x128 .f32) : FVec Ideal S512x512 .bf16 :=
  k0_pay8 (F := Ideal) x2 (k0_pay4 s0 s1 s2 s3) (k0_pay5 x2 s0 s1 s2 s3) (k0_pay6 x2 s0 s1 s2 s3) (k0_pay7 x2)

theorem kv_at {x3 : Vec Ideal S2x8x128 .f32} {s0 s1 s2 s3 : Vec Ideal S1x4x128 .f32} (H : Scales x3 s0 s1 s2 s3)
    (x2 : Vec Ideal S16x32x128 .i32) (t c : Fin 512) :
    kvTerm x2 s0 s1 s2 s3 (ix2 t c) = latent x2 x3 t c := by
  unfold latent codeOf
  pointwise [kvTerm, k0_pay8, k0_pay5, k0_pay6, k0_pay7]
  split_ifs with h1 h2 h3
  all_goals rw [code_at _ _ (by omega), scale_at H _ _ (by decide)]
  all_goals refine Ideal.mul_congr ?_ ?_
  all_goals first
    | (refine congrArg _ (congrArg (fun w => BitVec.extractLsb' _ _ w) ?_); blk_ext; done)
    | (unfold scaleAt; blk_ext)

/-- The rotary words of the four loads side by side: row `k`, column `t`. -/
abbrev rotWords (r0 r1 r2 r3 : Vec Ideal S1x32x128 .i32) : IVec S32x512 32 :=
  concatenate S32x512 1 [⟨S32x128, (shapeCast S32x128 r0 shapeCasts_S1x32x128_S32x128 : IVec S32x128 32)⟩,
      ⟨S32x128, (shapeCast S32x128 r1 shapeCasts_S1x32x128_S32x128 : IVec S32x128 32)⟩,
      ⟨S32x128, (shapeCast S32x128 r2 shapeCasts_S1x32x128_S32x128 : IVec S32x128 32)⟩,
      ⟨S32x128, (shapeCast S32x128 r3 shapeCasts_S1x32x128_S32x128 : IVec S32x128 32)⟩]
      concatenates_S32x128_S32x128_S32x128_S32x128_S32x512_d1

/-- Word row `k` of token `t`. -/
theorem rotWords_at {x4 : Vec Ideal S2x64x128 .i32} {r0 r1 r2 r3 : Vec Ideal S1x32x128 .i32} (H : Rots x4 r0 r1 r2 r3)
    (k : Fin 32) (t : Fin 512) :
    rotWords r0 r1 r2 r3 (ix2 k t)
      = x4 (ix3 ⟨t.val / 256, by omega⟩ ⟨2 * k.val + t.val % 256 / 128, by omega⟩ ⟨t.val % 128, by omega⟩) := by
  have e : rotWords r0 r1 r2 r3 (ix2 k t)
      = if h : t.val < 128 then r0 (ix3 0 k ⟨t.val, h⟩)
        else if h1 : t.val - 128 < 128 then r1 (ix3 0 k ⟨t.val - 128, h1⟩)
        else if h2 : t.val - 128 - 128 < 128 then r2 (ix3 0 k ⟨t.val - 128 - 128, h2⟩)
        else r3 (ix3 0 k ⟨t.val - 128 - 128 - 128, by omega⟩) := by
    pointwise [rotWords]
  rw [e]
  split_ifs with h1 h2 h3
  · rw [H.h0]; blk_ext
  · rw [H.h1]; blk_ext
  · rw [H.h2]; blk_ext
  · rw [H.h3]; blk_ext

/-- The rotary keys as one 64 by 512 array: row `r`, column `t`. -/
theorem kr_at {x4 : Vec Ideal S2x64x128 .i32} {r0 r1 r2 r3 : Vec Ideal S1x32x128 .i32} (H : Rots x4 r0 r1 r2 r3)
    (t : Fin 512) (r : Fin 64) :
    Ideal.ofBits .bf16 (bitcast S64x512 16 (rotWords r0 r1 r2 r3) bitcasts_S32x512_w32_S64x512_w16 (ix2 r t))
      = rotary x4 t r := by
  unfold rotary rotOf
  rw [bitcast_half, rotWords_at H]

/-- The masked scores of the selected latents: head `h`, token `t`. -/
theorem score_at {x3 : Vec Ideal S2x8x128 .f32} {s0 s1 s2 s3 : Vec Ideal S1x4x128 .f32} (H : Scales x3 s0 s1 s2 s3)
    {x4 : Vec Ideal S2x64x128 .i32} {r0 r1 r2 r3 : Vec Ideal S1x32x128 .i32} (HR : Rots x4 r0 r1 r2 r3)
    (x0 : Vec Ideal S1x128x512 .bf16) (x1 : Vec Ideal S1x64x128 .bf16) (x2 : Vec Ideal S16x32x128 .i32)
    (x5 : Vec Ideal S1x1x512 .i32) (h : Fin 128) (t : Fin 512) :
    k0_pay9 (F := Ideal) (k0_pay2 x0) (k0_pay3 x1) x2 (k0_pay4 s0 s1 s2 s3) (k0_pay5 x2 s0 s1 s2 s3)
        (k0_pay6 x2 s0 s1 s2 s3) (k0_pay7 x2) r0 r1 r2 r3 x5 (ix2 h t)
      = masked (x5 (ix3 0 0 t))
          (score (fun c => x0 (ix3 0 h c)) (latent x2 x3 t) (fun r => x1 (ix3 0 r h)) (rotary x4 t)) := by
  have e1 : ∀ c, k0_pay8 (F := Ideal) x2 (k0_pay4 s0 s1 s2 s3) (k0_pay5 x2 s0 s1 s2 s3) (k0_pay6 x2 s0 s1 s2 s3)
      (k0_pay7 x2) (ix2 t c) = latent x2 x3 t c := fun c => kv_at H x2 t c
  have e2 := fun r => kr_at HR t r
  unfold masked score
  pointwise [k0_pay9, k0_pay2, k0_pay3]
  simp only [e1, e2]

/-- One channel block's scale of the new latent: row `b` of the scales, lane `l`. -/
theorem pay10_at (x7 : Vec Ideal S16x4 .f32) (b : Fin 16) (l : Fin 128) :
    k0_pay10 (F := Ideal) (BitVec.ofNat 32 b.val) x7 (ix2 0 l) = x7 (ix2 b 0) := by
  pointwise [k0_pay10]
  exact sum_row b fun x => x7 (ix2 x 0)

theorem pay11_at (x7 : Vec Ideal S16x4 .f32) (b : Fin 16) (l : Fin 128) :
    k0_pay11 (F := Ideal) (BitVec.ofNat 32 b.val) x7 (ix2 0 l) = x7 (ix2 b 1) := by
  pointwise [k0_pay11]
  exact sum_row b fun x => x7 (ix2 x 1)

theorem pay12_at (x7 : Vec Ideal S16x4 .f32) (b : Fin 16) (l : Fin 128) :
    k0_pay12 (F := Ideal) (BitVec.ofNat 32 b.val) x7 (ix2 0 l) = x7 (ix2 b 2) := by
  pointwise [k0_pay12]
  exact sum_row b fun x => x7 (ix2 x 2)

theorem pay13_at (x7 : Vec Ideal S16x4 .f32) (b : Fin 16) :
    k0_pay13 (F := Ideal) (BitVec.ofNat 32 b.val) x7 (ix2 0 0) = x7 (ix2 b 3) := by
  pointwise [k0_pay13]
  exact sum_row b fun x => x7 (ix2 x 3)

/-- Channel `c` of the new latent of sequence `b`. -/
def newLatent (x6 : Vec Ideal S16x512 .fp8e4m3) (x7 : Vec Ideal S16x4 .f32) (b : Fin 16) (c : Fin 512) : EReal :=
  x6 (ix2 b c) * x7 (ix2 b ⟨c.val / 128, by omega⟩)

/-- The new latent as the body computes it. -/
abbrev newTerm (x6 : Vec Ideal S16x512 .fp8e4m3) (x7 : Vec Ideal S16x4 .f32) (b : Fin 16) : FVec Ideal S1x512 .f32 :=
  k0_pay14 (F := Ideal) (BitVec.ofNat 32 b.val) (k0_pay10 (BitVec.ofNat 32 b.val) x7) (k0_pay11 (BitVec.ofNat 32 b.val) x7)
    (k0_pay12 (BitVec.ofNat 32 b.val) x7) (k0_pay13 (BitVec.ofNat 32 b.val) x7) x6

theorem new_at (x6 : Vec Ideal S16x512 .fp8e4m3) (x7 : Vec Ideal S16x4 .f32) (b : Fin 16) (c : Fin 512) :
    newTerm x6 x7 b (ix2 0 c) = newLatent x6 x7 b c := by
  unfold newLatent
  pointwise [newTerm, k0_pay14]
  refine Ideal.mul_congr (sum_row b fun x => x6 (ix2 x c)) ?_
  split_ifs with h1 h2 h3
  all_goals first
    | (rw [pay10_at]; blk_ext; done)
    | (rw [pay11_at]; blk_ext; done)
    | (rw [pay12_at]; blk_ext; done)
    | (rw [pay13_at]; blk_ext; done)

/-- The score of the new latent as the body computes it. -/
abbrev newScore (x0 : Vec Ideal S1x128x512 .bf16) (x1 : Vec Ideal S1x64x128 .bf16) (x6 : Vec Ideal S16x512 .fp8e4m3)
    (x7 : Vec Ideal S16x4 .f32) (x8 : Vec Ideal S16x64 .bf16) (b : Fin 16) : FVec Ideal S128x1 .f32 :=
  k0_pay15 (F := Ideal) (BitVec.ofNat 32 b.val) (k0_pay2 x0) (k0_pay3 x1) (k0_pay10 (BitVec.ofNat 32 b.val) x7)
    (k0_pay11 (BitVec.ofNat 32 b.val) x7) (k0_pay12 (BitVec.ofNat 32 b.val) x7) (k0_pay13 (BitVec.ofNat 32 b.val) x7) x6 x8

theorem newScore_at (x0 : Vec Ideal S1x128x512 .bf16) (x1 : Vec Ideal S1x64x128 .bf16) (x6 : Vec Ideal S16x512 .fp8e4m3)
    (x7 : Vec Ideal S16x4 .f32) (x8 : Vec Ideal S16x64 .bf16) (b : Fin 16) (h : Fin 128) :
    newScore x0 x1 x6 x7 x8 b (ix2 h 0)
      = score (fun c => x0 (ix3 0 h c)) (newLatent x6 x7 b) (fun r => x1 (ix3 0 r h)) (fun r => x8 (ix2 b r)) := by
  have e1 : ∀ c, k0_pay14 (F := Ideal) (BitVec.ofNat 32 b.val) (k0_pay10 (BitVec.ofNat 32 b.val) x7)
      (k0_pay11 (BitVec.ofNat 32 b.val) x7) (k0_pay12 (BitVec.ofNat 32 b.val) x7) (k0_pay13 (BitVec.ofNat 32 b.val) x7) x6
      (ix2 0 c) = newLatent x6 x7 b c := fun c => new_at x6 x7 b c
  have e2 : ∀ r : Fin 64, ∑ x : Fin 16, Scalar.select (IntOp.cmpi .eq (BitVec.ofNat 32 x.val) (BitVec.ofNat 32 b.val))
      (x8 (ix2 x r)) 0 = x8 (ix2 b r) := fun r => sum_row b fun x => x8 (ix2 x r)
  unfold score
  pointwise [newScore, k0_pay15, k0_pay2, k0_pay3]
  simp only [e1, e2]

/-- The softmax and the weighted sum, over any scores and values. -/
theorem out_at (v1 : FVec Ideal S128x512 .bf16) (v3 : FVec Ideal S64x128 .bf16) (v52 : FVec Ideal S512x512 .bf16) (v75 : FVec Ideal S128x512 .f32)
    (b : BitVec 32) (v87 v99 v111 : FVec Ideal S1x128 .f32) (v121 : FVec Ideal S1x1 .f32) (v125 : Vec Ideal S16x512 .fp8e4m3)
    (v139 : Vec Ideal S16x64 .bf16) (v138 : FVec Ideal S1x512 .f32) (h : Fin 128) (c : Fin 512) :
    k0_pay1 (F := Ideal) v52 v138 (k0_pay17 b v1 v3 v75 v87 v99 v111 v121 v125 v139)
        (k0_pay18 b v1 v3 v75 v87 v99 v111 v121 v125 v139) (ix3 0 h c)
      = mix (fun t => v75 (ix2 h t)) (k0_pay15 (F := Ideal) b v1 v3 v87 v99 v111 v121 v125 v139 (ix2 h 0))
          (fun t => v52 (ix2 t c)) (v138 (ix2 0 c)) := by
  unfold mix denom top
  pointwise [k0_pay1, k0_pay17, k0_pay18, k0_pay16]

/-- What the body stores, as one term of its loads. -/
abbrev outTerm (b : Fin 16) (x0 : Vec Ideal S1x128x512 .bf16) (x1 : Vec Ideal S1x64x128 .bf16) (x2 : Vec Ideal S16x32x128 .i32)
    (s0 s1 s2 s3 : Vec Ideal S1x4x128 .f32) (r0 r1 r2 r3 : Vec Ideal S1x32x128 .i32) (x5 : Vec Ideal S1x1x512 .i32)
    (x6 : Vec Ideal S16x512 .fp8e4m3) (x7 : Vec Ideal S16x4 .f32) (x8 : Vec Ideal S16x64 .bf16) : FVec Ideal S1x128x512 .bf16 :=
  k0_pay1 (F := Ideal) (kvTerm x2 s0 s1 s2 s3) (newTerm x6 x7 b)
    (k0_pay17 (BitVec.ofNat 32 b.val) (k0_pay2 x0) (k0_pay3 x1)
      (k0_pay9 (k0_pay2 x0) (k0_pay3 x1) x2 (k0_pay4 s0 s1 s2 s3) (k0_pay5 x2 s0 s1 s2 s3) (k0_pay6 x2 s0 s1 s2 s3)
        (k0_pay7 x2) r0 r1 r2 r3 x5)
      (k0_pay10 (BitVec.ofNat 32 b.val) x7) (k0_pay11 (BitVec.ofNat 32 b.val) x7)
      (k0_pay12 (BitVec.ofNat 32 b.val) x7) (k0_pay13 (BitVec.ofNat 32 b.val) x7) x6 x8)
    (k0_pay18 (BitVec.ofNat 32 b.val) (k0_pay2 x0) (k0_pay3 x1)
      (k0_pay9 (k0_pay2 x0) (k0_pay3 x1) x2 (k0_pay4 s0 s1 s2 s3) (k0_pay5 x2 s0 s1 s2 s3) (k0_pay6 x2 s0 s1 s2 s3)
        (k0_pay7 x2) r0 r1 r2 r3 x5)
      (k0_pay10 (BitVec.ofNat 32 b.val) x7) (k0_pay11 (BitVec.ofNat 32 b.val) x7)
      (k0_pay12 (BitVec.ofNat 32 b.val) x7) (k0_pay13 (BitVec.ofNat 32 b.val) x7) x6 x8)

/-- What the body stores for head `h`, channel `c` is that head's attention over the block's latents. -/
theorem point {x3 : Vec Ideal S2x8x128 .f32} {s0 s1 s2 s3 : Vec Ideal S1x4x128 .f32} (H : Scales x3 s0 s1 s2 s3)
    {x4 : Vec Ideal S2x64x128 .i32} {r0 r1 r2 r3 : Vec Ideal S1x32x128 .i32} (HR : Rots x4 r0 r1 r2 r3) (b : Fin 16)
    (x0 : Vec Ideal S1x128x512 .bf16) (x1 : Vec Ideal S1x64x128 .bf16) (x2 : Vec Ideal S16x32x128 .i32)
    (x5 : Vec Ideal S1x1x512 .i32) (x6 : Vec Ideal S16x512 .fp8e4m3) (x7 : Vec Ideal S16x4 .f32) (x8 : Vec Ideal S16x64 .bf16)
    (h : Fin 128) (c : Fin 512) :
    outTerm b x0 x1 x2 s0 s1 s2 s3 r0 r1 r2 r3 x5 x6 x7 x8 (ix3 0 h c)
      = attend (fun x => x0 (ix3 0 h x)) (fun r => x1 (ix3 0 r h)) (latent x2 x3) (rotary x4) (fun t => x5 (ix3 0 0 t))
          (newLatent x6 x7 b) (fun r => x8 (ix2 b r)) c := by
  have e1 := fun t => score_at H HR x0 x1 x2 x5 h t
  have e2 := newScore_at x0 x1 x6 x7 x8 b h
  have e3 := fun t => kv_at H x2 t c
  have e4 := new_at x6 x7 b c
  unfold attend
  rw [outTerm, out_at]
  simp only [e1, e3, e4]
  rw [← e2]

end Cert.KernelIdeal.Point

end
-- ==== Proof.Result.lean ====
/- The result array both programs compute, as a function of the nine argument arrays. -/
module

public import proofs.«01_k».proof.Proof.Attention

@[expose] public section

noncomputable section

namespace Cert.Mla

open Idealize.ShloMosaic Idealize.ShloMosaic.TcCoe Idealize.SL.Sem

/-- Channel `c` of the latent that sequence `b` selected `t`-th: a byte of a word of `kv`, times its block's scale. -/
def latentOf (kv : Vec Ideal ⟨3, ![256, 32, 128]⟩ .i32) (sc : Vec Ideal ⟨3, ![32, 8, 128]⟩ .f32) (b : Fin 16) (t c : Fin 512) : EReal :=
  codeOf (kv (ix3 ⟨16 * b.val + t.val / 32, by omega⟩ ⟨c.val / 128 * 8 + t.val % 32 / 4, by omega⟩ ⟨c.val % 128, by omega⟩))
      (t.val % 4)
    * sc (ix3 ⟨2 * b.val + t.val / 256, by omega⟩ ⟨2 * (c.val / 128) + t.val % 256 / 128, by omega⟩ ⟨t.val % 128, by omega⟩)

/-- Rotary coordinate `r` of the token that sequence `b` selected `t`-th: a half of a word of `kr`. -/
def rotaryOf (kr : Vec Ideal ⟨3, ![32, 64, 128]⟩ .i32) (b : Fin 16) (t : Fin 512) (r : Fin 64) : EReal :=
  rotOf (kr (ix3 ⟨2 * b.val + t.val / 256, by omega⟩ ⟨2 * (r.val / 2) + t.val % 256 / 128, by omega⟩ ⟨t.val % 128, by omega⟩))
    (r.val % 2)

/-- The result for sequence `b`, head `h`, channel `c`. -/
def resultAt (x : Vec Ideal ⟨3, ![16, 1, 65536]⟩ .bf16) (qr : Vec Ideal ⟨4, ![16, 1, 128, 64]⟩ .bf16)
    (kv : Vec Ideal ⟨3, ![256, 32, 128]⟩ .i32) (sc : Vec Ideal ⟨3, ![32, 8, 128]⟩ .f32) (kr : Vec Ideal ⟨3, ![32, 64, 128]⟩ .i32)
    (ind : Vec Ideal ⟨3, ![16, 1, 512]⟩ .i32) (nc : Vec Ideal ⟨3, ![16, 1, 512]⟩ .fp8e4m3) (ns : Vec Ideal ⟨3, ![16, 1, 4]⟩ .f32)
    (nr : Vec Ideal ⟨3, ![16, 1, 64]⟩ .bf16) (b : Fin 16) (h : Fin 128) (c : Fin 512) : EReal :=
  attend (fun d => x (ix3 b 0 ⟨512 * h.val + d.val, by omega⟩)) (fun r => qr (ix4 b 0 h r)) (latentOf kv sc b) (rotaryOf kr b)
    (fun t => ind (ix3 b 0 t)) (fun d => nc (ix3 b 0 d) * ns (ix3 b 0 ⟨d.val / 128, by omega⟩)) (fun r => nr (ix3 b 0 r)) c

/-- The result array. -/
def result (x : Vec Ideal ⟨3, ![16, 1, 65536]⟩ .bf16) (qr : Vec Ideal ⟨4, ![16, 1, 128, 64]⟩ .bf16)
    (kv : Vec Ideal ⟨3, ![256, 32, 128]⟩ .i32) (sc : Vec Ideal ⟨3, ![32, 8, 128]⟩ .f32) (kr : Vec Ideal ⟨3, ![32, 64, 128]⟩ .i32)
    (ind : Vec Ideal ⟨3, ![16, 1, 512]⟩ .i32) (nc : Vec Ideal ⟨3, ![16, 1, 512]⟩ .fp8e4m3) (ns : Vec Ideal ⟨3, ![16, 1, 4]⟩ .f32)
    (nr : Vec Ideal ⟨3, ![16, 1, 64]⟩ .bf16) : Vec Ideal ⟨3, ![16, 128, 512]⟩ .bf16 :=
  fun j => resultAt x qr kv sc kr ind nc ns nr (j 0) (j 1) (j 2)

end Cert.Mla

end
-- ==== Proof.KernelValue.lean ====
/- The kernel's result array: block `t` holds the attention of sequence `t`, and the sixteen blocks cover the array. -/
module

public import proofs.«01_k».proof.Proof.Gen.KernelIdeal.Value
public import proofs.«01_k».proof.Proof.KernelPoint
public import proofs.«01_k».proof.Proof.Result
public import Idealize.ShloMosaic.Lib.WholeRead

@[expose] public section

set_option maxRecDepth 16384

noncomputable section

namespace Cert.KernelIdeal.Point

open Idealize.ShloMosaic Idealize.ShloMosaic.TcCoe Idealize.SL.Sem
open Idealize.ShloMosaic.Pipeline (Dat)
open Cert.KernelIdeal Cert.KernelIdeal.Gen Cert.Mla

variable (m : (ℓ : Loc nD τ sig) → Buf (Elt Ideal) ℓ) (c : Dev nD) (t : Fin cfg0.N)

/-- The sequence of grid point `t`. -/
def seq (t : Fin cfg0.N) : Fin 16 := ⟨t.val, t.isLt⟩

/-- Which block of each array point `t` works on. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![0, 0] ∧ win0_7.index t = ![0, 0] ∧ win0_8.index t = ![0, 0] ∧ win0_9.index t = ![t.val, 0, 0]
    ∧ (grid0.coords t 0).val = t.val :=
  (by decide +kernel : ∀ t : Fin grid0.N, _)

theorem query_at (h : Fin 128) (d : Fin 512) :
    iblk m c 0 t (ix3 0 h d) = m ((c : Thread nD τ).loc main_arg0) (ix3 (seq t) 0 ⟨512 * h.val + d.val, by omega⟩) := by
  unfold seq
  blk_point [iblk, V, idx t]

theorem rotaryQuery_at (r : Fin 64) (h : Fin 128) :
    iblk m c 1 t (ix3 0 r h) = m ((c : Thread nD τ).loc main_arg1) (ix4 (seq t) 0 h r) := by
  unfold seq
  blk_point [iblk, V, idx t]

theorem words_at (a : Fin 16) (k : Fin 32) (l : Fin 128) :
    iblk m c 2 t (ix3 a k l) = m ((c : Thread nD τ).loc main_arg2) (ix3 ⟨16 * (seq t).val + a.val, by omega⟩ k l) := by
  unfold seq
  blk_point [iblk, V, idx t]

theorem scales_at (a : Fin 2) (k : Fin 8) (l : Fin 128) :
    iblk m c 3 t (ix3 a k l) = m ((c : Thread nD τ).loc main_arg3) (ix3 ⟨2 * (seq t).val + a.val, by omega⟩ k l) := by
  unfold seq
  blk_point [iblk, V, idx t]

theorem rotaryWords_at (a : Fin 2) (k : Fin 64) (l : Fin 128) :
    iblk m c 4 t (ix3 a k l) = m ((c : Thread nD τ).loc main_arg4) (ix3 ⟨2 * (seq t).val + a.val, by omega⟩ k l) := by
  unfold seq
  blk_point [iblk, V, idx t]

theorem indices_at (k : Fin 512) :
    iblk m c 5 t (ix3 0 0 k) = m ((c : Thread nD τ).loc main_arg5) (ix3 (seq t) 0 k) := by
  unfold seq
  blk_point [iblk, V, idx t]

theorem newCodes_at (b : Fin 16) (d : Fin 512) :
    iblk m c 6 t (ix2 b d) = m ((c : Thread nD τ).loc main_arg6) (ix3 b 0 d) := by
  blk_point [iblk, V, idx t]

theorem newScales_at (b : Fin 16) (k : Fin 4) :
    iblk m c 7 t (ix2 b k) = m ((c : Thread nD τ).loc main_arg7) (ix3 b 0 k) := by
  blk_point [iblk, V, idx t]

theorem newRotary_at (b : Fin 16) (r : Fin 64) :
    iblk m c 8 t (ix2 b r) = m ((c : Thread nD τ).loc main_arg8) (ix3 b 0 r) := by
  blk_point [iblk, V, idx t]

/-- A load of a staged block reads the block at the load's own indices. -/
theorem read_at {s : Shape} {κ sp e} {b : Memref sig κ sp s e} (h : b.IsWhole) (X : s.Idx → Elt Ideal e) {B : LoadRect s}
    {x : B.shape.Idx} {y : s.Idx} (hy : B.idx x = y) :
    View.readAt (Elt Ideal) b.view B (h.unread X) x = X y :=
  (h.readAt_unread X B x).trans (congrArg X hy)

/-- The body's four loads of the scales' block. -/
theorem scales : Scales (iblk m c 3 t)
      (View.readAt (Elt Ideal) (ms0_3 t).view ⟨![0, 0, 0], ![1, 4, 128], ![1, 2, 1], inb_S2x8x128_S1x4x128_0_0_0_s_1_2_1⟩ ((hs0_3 t).unread (iblk m c 3 t)))
      (View.readAt (Elt Ideal) (ms0_3 t).view ⟨![0, 1, 0], ![1, 4, 128], ![1, 2, 1], inb_S2x8x128_S1x4x128_0_1_0_s_1_2_1⟩ ((hs0_3 t).unread (iblk m c 3 t)))
      (View.readAt (Elt Ideal) (ms0_3 t).view ⟨![1, 0, 0], ![1, 4, 128], ![1, 2, 1], inb_S2x8x128_S1x4x128_1_0_0_s_1_2_1⟩ ((hs0_3 t).unread (iblk m c 3 t)))
      (View.readAt (Elt Ideal) (ms0_3 t).view ⟨![1, 1, 0], ![1, 4, 128], ![1, 2, 1], inb_S2x8x128_S1x4x128_1_1_0_s_1_2_1⟩ ((hs0_3 t).unread (iblk m c 3 t))) := by
  constructor
  all_goals
    intro k l
    refine read_at (hs0_3 t) _ ?_
    blk_ext
    all_goals simp [LoadRect.idx, ix3]
    all_goals omega

/-- The body's four loads of the rotary words' block. -/
theorem rots : Rots (iblk m c 4 t)
      (View.readAt (Elt Ideal) (ms0_4 t).view ⟨![0, 0, 0], ![1, 32, 128], ![1, 2, 1], inb_S2x64x128_S1x32x128_0_0_0_s_1_2_1⟩ ((hs0_4 t).unread (iblk m c 4 t)))
      (View.readAt (Elt Ideal) (ms0_4 t).view ⟨![0, 1, 0], ![1, 32, 128], ![1, 2, 1], inb_S2x64x128_S1x32x128_0_1_0_s_1_2_1⟩ ((hs0_4 t).unread (iblk m c 4 t)))
      (View.readAt (Elt Ideal) (ms0_4 t).view ⟨![1, 0, 0], ![1, 32, 128], ![1, 2, 1], inb_S2x64x128_S1x32x128_1_0_0_s_1_2_1⟩ ((hs0_4 t).unread (iblk m c 4 t)))
      (View.readAt (Elt Ideal) (ms0_4 t).view ⟨![1, 1, 0], ![1, 32, 128], ![1, 2, 1], inb_S2x64x128_S1x32x128_1_1_0_s_1_2_1⟩ ((hs0_4 t).unread (iblk m c 4 t))) := by
  constructor
  all_goals
    intro k l
    refine read_at (hs0_4 t) _ ?_
    blk_ext
    all_goals simp [LoadRect.idx, ix3]
    all_goals omega

/-- Where block `t` of the result lies in the array. -/
theorem emb_at (h : Fin 128) (d : Fin 512) :
    ((View.whole main_v6).slice (win0_9.rect t)).emb (ix3 0 h d) = ix3 (seq t) h d := by
  unfold seq
  blk_ext [idx t]

/-- The array the kernel leaves. -/
theorem final : (dats m 0 c).arrAt 9 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  unfold outsAt0
  frame_out
  idx_vars y
  obtain rfl : y0 = 0 := Subsingleton.elim _ _
  rw [(idx t).2.2.2.2.2.2.2.2.2.2]
  refine (point (x3 := iblk m c 3 t) (x4 := iblk m c 4 t) (scales m c t) (rots m c t) (seq t) _ _ _ _ _ _ _ y1 y2).trans ?_
  rw [emb_at t]
  show _ = resultAt _ _ _ _ _ _ _ _ _ (seq t) y1 y2
  unfold resultAt
  refine attend_congr y2 (fun x => query_at m c t y1 x) (fun r => rotaryQuery_at m c t r y1) (fun k d => ?_) (fun k r => ?_)
    (fun k => indices_at m c t k) (fun d => ?_) (fun r => newRotary_at m c t (seq t) r)
  · unfold latent latentOf
    rw [wordAt, words_at, scaleAt, scales_at]
  · unfold rotary rotaryOf
    rw [rotaryWords_at]
  · unfold newLatent
    rw [newCodes_at, newScales_at]

end Cert.KernelIdeal.Point

end
-- ==== Proof.ReferencePoint.lean ====
/- What the reference's one body computes: the same attention, of all sixteen sequences at once. -/
module

public import proofs.«01_k».proof.Proof.Gen.ReferenceIdeal.Frame
public import proofs.«01_k».proof.Proof.Attention

@[expose] public section

set_option maxRecDepth 16384

noncomputable section

namespace Cert.ReferenceIdeal.Point

open Idealize.ShloMosaic Idealize.ShloMosaic.TcCoe Idealize.SL.Sem
open Cert.ReferenceIdeal Cert.ReferenceIdeal.Gen Cert.Mla

/-- Channel `c` of the selected latent `t` of sequence `b`: the low byte of its word, times its block's scale. -/
def latent (v4 : Vec Ideal S16x512x512 .i32) (v8 : Vec Ideal S16x512x4 .f32) (b : Fin 16) (t c : Fin 512) : EReal :=
  Ideal.ofBits .fp8e4m3 ((v4 (ix3 b t c)).setWidth 8) * v8 (ix3 b t ⟨c.val / 128, by omega⟩)

theorem latent_at (v4 : Vec Ideal S16x512x512 .i32) (v8 : Vec Ideal S16x512x4 .f32) (b : Fin 16) (t c : Fin 512) :
    k0_pay4 (F := Ideal) v4 v8 (ix3 b t c) = latent v4 v8 b t c := by
  unfold latent
  pointwise [k0_pay4]

/-- Channel `c` of the new latent of sequence `b`. -/
def newLatent (v17 : Vec Ideal S16x1x512 .fp8e4m3) (v18 : Vec Ideal S16x1x4 .f32) (b : Fin 16) (c : Fin 512) : EReal :=
  v17 (ix3 b 0 c) * v18 (ix3 b 0 ⟨c.val / 128, by omega⟩)

theorem newLatent_at (v17 : Vec Ideal S16x1x512 .fp8e4m3) (v18 : Vec Ideal S16x1x4 .f32) (b : Fin 16) (c : Fin 512) :
    k0_pay5 (F := Ideal) v17 v18 (ix3 b 0 c) = newLatent v17 v18 b c := by
  unfold newLatent
  pointwise [k0_pay5]

/-- The scores of the selected latents, before the mask. -/
theorem score_at (v0 : Vec Ideal S16x128x512 .bf16) (v2 : Vec Ideal S16x128x64 .bf16) (v4 : Vec Ideal S16x512x512 .i32)
    (v8 : Vec Ideal S16x512x4 .f32) (v27 : Vec Ideal S16x512x64 .bf16) (b : Fin 16) (h : Fin 128) (t : Fin 512) :
    k0_pay6 (F := Ideal) v0 v2 v4 v8 v27 (ix3 b h t)
      = score (fun c => v0 (ix3 b h c)) (latent v4 v8 b t) (fun r => v2 (ix3 b h r)) (fun r => v27 (ix3 b t r)) := by
  have e := fun c => latent_at v4 v8 b t c
  unfold score
  pointwise [k0_pay6, k0_pay2, k0_pay3]
  simp only [e]

/-- The scores as one array: the selected latents' masked scores and the new latent's score. -/
def scores {F : FTy → Type} [FloatOps F] (v1 : FVec F S16x128x512 .bf16) (v3 : FVec F S16x128x64 .bf16) (v25 : FVec F S16x1x512 .bf16)
    (v32 : FVec F S16x128x512 .f32) (v33 : Vec F S16x1x512 .i32) (v41 : Vec F S16x1x64 .bf16) : FVec F S16x128x513 .f32 :=
  have v34 : IVec S16x1x512 32 := broadcast S16x1x512 0#32
  have v35 : IVec S16x1x512 1 := cmpi .sge v33 v34
  have cst_25 : F .f32 := Scalar.ofBits .f32 0xFF800000#32
  have v36 : IVec S16x1x512 1 := shapeCast S16x1x512 v35 shapeCasts_S16x1x512_S16x1x512
  have v37 : IVec S16x128x512 1 := broadcastTo S16x128x512 v36 broadcasts_S16x1x512_S16x128x512
  have v38 : FVec F S16x128x512 .f32 := broadcast S16x128x512 cst_25
  have v39 : FVec F S16x128x512 .f32 := select v37 v32 v38
  have cst_26 : FVec F S16x128x1 .f32 := constant S16x128x1 .f32 0x00000000#32
  have v40 : FVec F S16x128x1 .f32 := matmul dot_S16x128x512_S16x1x512_S16x128x1_2_2_1_1_0_0 none v1 v25 cst_26
  have cst_30 : FVec F S16x128x1 .f32 := constant S16x128x1 .f32 0x00000000#32
  have v42 : FVec F S16x128x1 .f32 := matmul dot_S16x128x64_S16x1x64_S16x128x1_2_2_1_1_0_0 none v3 v41 cst_30
  have v43 : FVec F S16x128x1 .f32 := addf v40 v42
  have cst_31 : F .f32 := Scalar.ofBits .f32 0x3D93CD3A#32
  have v44 : FVec F S16x128x1 .f32 := broadcast S16x128x1 cst_31
  have v45 : FVec F S16x128x1 .f32 := mulf v43 v44
  concatenate S16x128x513 2 [⟨S16x128x512, v39⟩, ⟨S16x128x1, v45⟩] concatenates_S16x128x512_S16x128x1_S16x128x513_d2

/-- The largest score of every head. -/
def tops {F : FTy → Type} [FloatOps F] (v46 : FVec F S16x128x513 .f32) : FVec F S16x128 .f32 :=
  have v47 : FVec F S16x128 .f32 := multiReduction .maximumf [2] S16x128 v46 0xFF800000#32 reduces_S16x128x513_S16x128 (.inl rfl) rfl
  have cst_33 : F .f32 := Scalar.ofBits .f32 0xFF800000#32
  have v48 : FVec F S16x128 .f32 := broadcast S16x128 cst_33
  maximumf v48 v47

/-- The softmax of the scores and the weighted sum of the values. -/
def weigh {F : FTy → Type} [FloatOps F] (v46 : FVec F S16x128x513 .f32) (v49 : FVec F S16x128 .f32) (v16 : FVec F S16x512x512 .bf16)
    (v25 : FVec F S16x1x512 .bf16) : FVec F S16x128x512 .bf16 :=
  have v50 : FVec F S16x128x1 .f32 := shapeCast S16x128x1 v49 shapeCasts_S16x128_S16x128x1
  have v51 : FVec F S16x128x513 .f32 := broadcastTo S16x128x513 v50 broadcasts_S16x128x1_S16x128x513
  have v52 : FVec F S16x128x513 .f32 := subf v46 v51
  have v53 : FVec F S16x128x513 .f32 := exp v52
  have v54 : FVec F S16x128 .f32 := multiReduction .add [2] S16x128 v53 0x00000000#32 reduces_S16x128x513_S16x128 (.inl rfl) rfl
  have v55 : FVec F S16x128x1 .f32 := shapeCast S16x128x1 v54 shapeCasts_S16x128_S16x128x1
  have v56 : FVec F S16x128x513 .f32 := broadcastTo S16x128x513 v55 broadcasts_S16x128x1_S16x128x513
  have v57 : FVec F S16x128x513 .f32 := divf v53 v56
  have v58 : FVec F S16x128x513 .bf16 := truncf .bf16 v57 bitsLt_bf16_f32
  have v59 : FVec F S16x128x512 .bf16 := extractStridedSlice S16x128x512 ![0, 0, 0] v58 slices_S16x128x513_o0_0_0_S16x128x512
  have cst_35 : FVec F S16x128x512 .f32 := constant S16x128x512 .f32 0x00000000#32
  have v60 : FVec F S16x128x512 .f32 := matmul dot_S16x128x512_S16x512x512_S16x128x512_2_1_1_2_0_0 none v59 v16 cst_35
  have v61 : FVec F S16x128x1 .bf16 := extractStridedSlice S16x128x1 ![0, 0, 512] v58 slices_S16x128x513_o0_0_512_S16x128x1
  have cst_36 : FVec F S16x128x512 .f32 := constant S16x128x512 .f32 0x00000000#32
  have v62 : FVec F S16x128x512 .f32 := matmul dot_S16x128x1_S16x1x512_S16x128x512_2_1_1_2_0_0 none v61 v25 cst_36
  have v63 : FVec F S16x128x512 .f32 := addf v60 v62
  truncf .bf16 v63 bitsLt_bf16_f32

/-- The payload is these three in turn. -/
theorem pay1_eq (v1 : FVec Ideal S16x128x512 .bf16) (v3 : FVec Ideal S16x128x64 .bf16) (v16 : FVec Ideal S16x512x512 .bf16)
    (v25 : FVec Ideal S16x1x512 .bf16) (v32 : FVec Ideal S16x128x512 .f32) (v33 : Vec Ideal S16x1x512 .i32) (v41 : Vec Ideal S16x1x64 .bf16) :
    k0_pay1 (F := Ideal) v1 v3 v16 v25 v32 v33 v41
      = weigh (scores v1 v3 v25 v32 v33 v41) (tops (scores v1 v3 v25 v32 v33 v41)) v16 v25 := rfl

theorem tops_at (v46 : FVec Ideal S16x128x513 .f32) (b : Fin 16) (h : Fin 128) :
    tops v46 (ix2 b h) = top (fun t => v46 (ix3 b h ⟨t.val, by omega⟩)) (v46 (ix3 b h 512)) := by
  unfold top
  pointwise [tops]
  rw [fold_max_last, max_fold_self]
  rfl

theorem scores_old (v1 : FVec Ideal S16x128x512 .bf16) (v3 : FVec Ideal S16x128x64 .bf16)
    (v25 : FVec Ideal S16x1x512 .bf16) (v32 : FVec Ideal S16x128x512 .f32) (v33 : Vec Ideal S16x1x512 .i32) (v41 : Vec Ideal S16x1x64 .bf16)
    (b : Fin 16) (h : Fin 128) (t : Fin 512) :
    scores v1 v3 v25 v32 v33 v41 (ix3 b h ⟨t.val, by omega⟩) = masked (v33 (ix3 b 0 t)) (v32 (ix3 b h t)) := by
  unfold masked
  pointwise [scores]

theorem scores_new (v1 : FVec Ideal S16x128x512 .bf16) (v3 : FVec Ideal S16x128x64 .bf16)
    (v25 : FVec Ideal S16x1x512 .bf16) (v32 : FVec Ideal S16x128x512 .f32) (v33 : Vec Ideal S16x1x512 .i32) (v41 : Vec Ideal S16x1x64 .bf16)
    (b : Fin 16) (h : Fin 128) :
    scores v1 v3 v25 v32 v33 v41 (ix3 b h 512)
      = score (fun c => v1 (ix3 b h c)) (fun c => v25 (ix3 b 0 c)) (fun r => v3 (ix3 b h r)) (fun r => v41 (ix3 b 0 r)) := by
  unfold score
  pointwise [scores]

theorem weigh_at (v46 : FVec Ideal S16x128x513 .f32) (v49 : FVec Ideal S16x128 .f32) (v16 : FVec Ideal S16x512x512 .bf16)
    (v25 : FVec Ideal S16x1x512 .bf16) (b : Fin 16) (h : Fin 128) (c : Fin 512)
    (ht : v49 (ix2 b h) = top (fun t => v46 (ix3 b h ⟨t.val, by omega⟩)) (v46 (ix3 b h 512))) :
    weigh v46 v49 v16 v25 (ix3 b h c)
      = mix (fun t => v46 (ix3 b h ⟨t.val, by omega⟩)) (v46 (ix3 b h 512)) (fun t => v16 (ix3 b t c)) (v25 (ix3 b 0 c)) := by
  unfold mix denom
  rw [← ht]
  pointwise [weigh]
  rw [Fin.sum_univ_castSucc (n := 512), Fin.sum_univ_one]
  rfl

/-- What the body stores for sequence `b`, head `h`, channel `c` is that head's attention. -/
theorem point (x0 : Vec Ideal S16x128x512 .bf16) (x1 : Vec Ideal S16x128x64 .bf16) (x2 : Vec Ideal S16x512x512 .i32)
    (x3 : Vec Ideal S16x512x4 .f32) (x4 : Vec Ideal S16x512x64 .bf16) (x5 : Vec Ideal S16x1x512 .i32)
    (x6 : Vec Ideal S16x1x512 .fp8e4m3) (x7 : Vec Ideal S16x1x4 .f32) (x8 : Vec Ideal S16x1x64 .bf16)
    (b : Fin 16) (h : Fin 128) (c : Fin 512) :
    k0_pay1 (F := Ideal) (k0_pay2 x0) (k0_pay3 x1) (k0_pay4 x2 x3) (k0_pay5 x6 x7) (k0_pay6 x0 x1 x2 x3 x4) x5 x8 (ix3 b h c)
      = attend (fun d => x0 (ix3 b h d)) (fun r => x1 (ix3 b h r)) (latent x2 x3 b) (fun t r => x4 (ix3 b t r))
          (fun t => x5 (ix3 b 0 t)) (newLatent x6 x7 b) (fun r => x8 (ix3 b 0 r)) c := by
  have e2 : ∀ d, k0_pay2 (F := Ideal) x0 (ix3 b h d) = x0 (ix3 b h d) := fun d => by pointwise [k0_pay2]
  have e3 : ∀ r, k0_pay3 (F := Ideal) x1 (ix3 b h r) = x1 (ix3 b h r) := fun r => by pointwise [k0_pay3]
  have e4 := fun t d => latent_at x2 x3 b t d
  have e5 := fun d => newLatent_at x6 x7 b d
  have e6 := fun t => score_at x0 x1 x2 x3 x4 b h t
  rw [pay1_eq, weigh_at _ _ _ _ b h c (tops_at _ b h)]
  unfold attend
  simp only [scores_old, scores_new, e2, e3, e4, e5, e6]

end Cert.ReferenceIdeal.Point

end
-- ==== Proof.ReferenceValue.lean ====
/- The reference's result array: its host code unpacks the words, its body computes the attention. -/
module

public import proofs.«01_k».proof.Proof.Gen.ReferenceIdeal.Value
public import proofs.«01_k».proof.Proof.ReferencePoint
public import proofs.«01_k».proof.Proof.Result
public import Idealize.ShloMosaic.Lib.StableHlo.RunRead

@[expose] public section

set_option maxRecDepth 16384

noncomputable section

namespace Cert.ReferenceIdeal.Point

open Idealize.ShloMosaic Idealize.ShloMosaic.TcCoe Idealize.SL.Sem
open Idealize.ShloMosaic.Pipeline (Dat)
open Cert.ReferenceIdeal Cert.ReferenceIdeal.Gen Cert.Mla

variable (m : (ℓ : Loc nD τ sig) → Buf (Elt Ideal) ℓ) (c : Dev nD)

/-- The one grid point works on the whole of every array. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0]
    ∧ win0_6.index t = ![0, 0, 0] ∧ win0_7.index t = ![0, 0, 0] ∧ win0_8.index t = ![0, 0, 0] ∧ win0_9.index t = ![0, 0, 0] :=
  (by decide +kernel : ∀ t : Fin grid0.N, _)

theorem query_at (b : Fin 16) (h : Fin 128) (d : Fin 512) :
    iblk m c 0 t0_0 (ix3 b h d) = m ((c : Thread nD τ).loc main_arg0) (ix3 b 0 ⟨512 * h.val + d.val, by omega⟩) := by
  blk_point [iblk, V, idx t0_0]

theorem rotaryQuery_at (b : Fin 16) (h : Fin 128) (r : Fin 64) :
    iblk m c 1 t0_0 (ix3 b h r) = m ((c : Thread nD τ).loc main_arg1) (ix4 b 0 h r) := by
  blk_point [iblk, V, idx t0_0]

/-- The three unpacked arrays are staged whole. -/
theorem whole2 (b : Fin 16) (t k : Fin 512) : iblk m c 2 t0_0 (ix3 b t k) = V m c main_v23 (ix3 b t k) := by
  blk_simp [iblk]
  refine congrArg _ ?_
  blk_ext [idx t0_0]

theorem whole3 (b : Fin 16) (t : Fin 512) (k : Fin 4) : iblk m c 3 t0_0 (ix3 b t k) = V m c main_v26 (ix3 b t k) := by
  blk_simp [iblk]
  refine congrArg _ ?_
  blk_ext [idx t0_0]

theorem whole4 (b : Fin 16) (t : Fin 512) (k : Fin 64) : iblk m c 4 t0_0 (ix3 b t k) = V m c main_v30 (ix3 b t k) := by
  blk_simp [iblk]
  refine congrArg _ ?_
  blk_ext [idx t0_0]

theorem scales_at (b : Fin 16) (t : Fin 512) (k : Fin 4) :
    iblk m c 3 t0_0 (ix3 b t k) = m ((c : Thread nD τ).loc main_arg3)
      (ix3 ⟨2 * b.val + t.val / 256, by omega⟩ ⟨2 * k.val + t.val % 256 / 128, by omega⟩ ⟨t.val % 128, by omega⟩) := by
  rw [whole3]
  entry_read
  pointwise
  blk_ext

theorem rotary_at (b : Fin 16) (t : Fin 512) (r : Fin 64) :
    iblk m c 4 t0_0 (ix3 b t r) = rotaryOf (m ((c : Thread nD τ).loc main_arg4)) b t r := by
  rw [whole4]
  entry_read
  unfold rotaryOf rotOf
  pointwise
  refine congrArg _ (congrArg _ (congrArg _ ?_))
  blk_ext
  rfl

/-- The low byte of a word shifted down by `8 d` bits is the word's byte `d`. -/
theorem byte_of_word {w w' : BitVec 32} {n d : ℕ} {a : BitVec 32} (hd : n + 8 ≤ 32 ∧ d * 8 = n)
    (ha : IntOp.shrsi .host w a = w.sshiftRight n) (hw : w = w') :
    (IntOp.andi (IntOp.shrsi .host w a) 255#32).setWidth 8 = w'.extractLsb' (d * 8) 8 := by
  rw [ha, hd.2, ← hw]
  exact byte_of_shift w n hd.1

theorem codes_at (b : Fin 16) (t k : Fin 512) :
    Ideal.ofBits .fp8e4m3 ((iblk m c 2 t0_0 (ix3 b t k)).setWidth 8)
      = codeOf (m ((c : Thread nD τ).loc main_arg2)
          (ix3 ⟨16 * b.val + t.val / 32, by omega⟩ ⟨k.val / 128 * 8 + t.val % 32 / 4, by omega⟩ ⟨k.val % 128, by omega⟩)) (t.val % 4) := by
  rw [whole2]
  unfold V
  after_reads_simp
  unfold codeOf
  pointwise
  split_ifs with h0 h1 h2
  all_goals after_reads_simp
  all_goals pointwise
  all_goals refine congrArg _ ?_
  all_goals first
    | exact byte_of_word (n := 0) (by omega) rfl (congrArg _ (by blk_ext))
    | exact byte_of_word (n := 8) (by omega) rfl (congrArg _ (by blk_ext))
    | exact byte_of_word (n := 16) (by omega) rfl (congrArg _ (by blk_ext))
    | exact byte_of_word (n := 24) (by omega) rfl (congrArg _ (by blk_ext))

theorem indices_at (b : Fin 16) (k : Fin 512) :
    iblk m c 5 t0_0 (ix3 b 0 k) = m ((c : Thread nD τ).loc main_arg5) (ix3 b 0 k) := by
  blk_point [iblk, V, idx t0_0]

theorem newCodes_at (b : Fin 16) (d : Fin 512) :
    iblk m c 6 t0_0 (ix3 b 0 d) = m ((c : Thread nD τ).loc main_arg6) (ix3 b 0 d) := by
  blk_point [iblk, V, idx t0_0]

theorem newScales_at (b : Fin 16) (k : Fin 4) :
    iblk m c 7 t0_0 (ix3 b 0 k) = m ((c : Thread nD τ).loc main_arg7) (ix3 b 0 k) := by
  blk_point [iblk, V, idx t0_0]

theorem newRotary_at (b : Fin 16) (r : Fin 64) :
    iblk m c 8 t0_0 (ix3 b 0 r) = m ((c : Thread nD τ).loc main_arg8) (ix3 b 0 r) := by
  blk_point [iblk, V, idx t0_0]

/-- The array the reference leaves. -/
theorem final : (dats m 0 c).arrAt 9 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_after_last 9 t0_0 (by decide +kernel) _ fun j => ?_
  blk_simp
  rw [after0_9]
  frame_out
  idx_vars j
  refine (point _ _ _ _ _ _ _ _ _ j0 j1 j2).trans ?_
  show _ = resultAt _ _ _ _ _ _ _ _ _ j0 j1 j2
  unfold resultAt
  refine attend_congr j2 (fun x => query_at m c j0 j1 x) (fun r => rotaryQuery_at m c j0 j1 r) (fun k d => ?_) (fun k r => ?_)
    (fun k => indices_at m c j0 k) (fun d => ?_) (fun r => newRotary_at m c j0 r)
  · unfold latent latentOf
    rw [codes_at, scales_at]
  · exact rotary_at m c j0 k r
  · unfold newLatent
    rw [newCodes_at, newScales_at]

end Cert.ReferenceIdeal.Point

end
-- ==== Proof.lean ====
/- The proof of the certificate's claim. The two value modules say which array each program leaves: the same function
   of the nine arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- Both programs leave the same array. -/
theorem value : algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 9 Cert.KernelIdeal.cfg0.N, Cert.KernelIdeal.Value.run_blocks m g, ?_⟩
  refine (θ_run _ _ _).mono (fun r h c => ⟨(h c).1.trans ?_, (h c).2⟩) (Cert.ReferenceIdeal.Value.run_blocks m' g')
  obtain ⟨a0, a1, a2, a3, a4, a5, a6, a7, a8⟩ := hagree c
  rw [Cert.ReferenceIdeal.Point.final m' c, a0, a1, a2, a3, a4, a5, a6, a7, a8]
  exact (Cert.KernelIdeal.Point.final m c).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, by trivial, value⟩

end Cert.Proof

end
